-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_embeddings_finite [hPre_embeddings_finite : Cert.Pre_embeddings_finite.Facts] (m : (ℓ : Loc Cert.KernelIdeal.nD Cert.KernelIdeal.τ Cert.KernelIdeal.sig) → Buf (Elt Ideal) ℓ) : Prop :=
  ∀ c : Dev Cert.KernelIdeal.nD,
    (Cert.Pre_embeddings_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_embeddings_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_embeddings_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_embeddings_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_embeddings_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_embeddings_finite [hPre_embeddings_finite : Cert.Pre_embeddings_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_embeddings_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_embeddings_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_embeddings_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_embeddings_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_embeddings_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_embeddings_finite [hKernelIdeal : Cert.KernelIdeal.Facts] [hPre_embeddings_finite : Cert.Pre_embeddings_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_embeddings_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_embeddings_finite [hReferenceIdeal : Cert.ReferenceIdeal.Facts] [hPre_embeddings_finite : Cert.Pre_embeddings_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_embeddings_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "half_pi" .f32 0x3FC90FDB#32 ((2⁻¹ * Real.pi : ℝ) : EReal)

def algebraic_KernelIdeal_ReferenceIdeal_pre_embeddings_finite [hKernelIdeal : Cert.KernelIdeal.Facts] [hReferenceIdeal : Cert.ReferenceIdeal.Facts] [hPre_embeddings_finite : Cert.Pre_embeddings_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_embeddings_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_embeddings_finite : Cert.Pre_embeddings_finite.Facts),
    quiescent_Kernel (hKernel := hKernel)
    ∧ quiescent_KernelIdeal (hKernelIdeal := hKernelIdeal)
    ∧ quiescent_KernelIdeal_pre_embeddings_finite (hKernelIdeal := hKernelIdeal) (hPre_embeddings_finite := hPre_embeddings_finite)
    ∧ quiescent_ReferenceIdeal (hReferenceIdeal := hReferenceIdeal)
    ∧ quiescent_ReferenceIdeal_pre_embeddings_finite (hReferenceIdeal := hReferenceIdeal) (hPre_embeddings_finite := hPre_embeddings_finite)
    ∧ preserves_Kernel_KernelIdeal
    ∧ algebraic_KernelIdeal_ReferenceIdeal_pre_embeddings_finite (hKernelIdeal := hKernelIdeal) (hReferenceIdeal := hReferenceIdeal) (hPre_embeddings_finite := hPre_embeddings_finite)
-- ==== Pre_embeddings_finite.lean ====
abbrev S64x1024 : Shape := ⟨2, ![64, 1024]⟩
abbrev S64 : Shape := ⟨1, ![64]⟩
abbrev S64x252x1024 : Shape := ⟨3, ![64, 252, 1024]⟩
abbrev S256x1024 : Shape := ⟨2, ![256, 1024]⟩
abbrev S1024 : Shape := ⟨1, ![1024]⟩
abbrev S_ : Shape := ⟨0, ![]⟩

class Facts : Prop where
  bcast_S_S64x1024 : S_.BroadcastsInDim S64x1024 (![] : Fin 0 → Fin S64x1024.rank)
  bcast_S_S64x252x1024 : S_.BroadcastsInDim S64x252x1024 (![] : Fin 0 → Fin S64x252x1024.rank)
  bcast_S_S256x1024 : S_.BroadcastsInDim S256x1024 (![] : Fin 0 → Fin S256x1024.rank)
  bcast_S_S1024 : S_.BroadcastsInDim S1024 (![] : Fin 0 → Fin S1024.rank)

variable [Facts]

def fn {F : FTy → Type} [FloatOps F] (main_arg0 : FVec F S64x1024 .f32) (main_arg1 : IVec S64 32) (main_arg2 : FVec F S64x252x1024 .f32) (main_arg3 : FVec F S64x1024 .f32) (main_arg4 : FVec F S256x1024 .f32) (main_arg5 : FVec F S1024 .f32) (main_arg6 : FVec F S1024 .f32) (main_arg7 : FVec F S1024 .f32) : IVec S64x1024 1 × IVec S64x252x1024 1 × IVec S64x1024 1 × IVec S256x1024 1 × IVec S1024 1 :=
  let main_v0 : FVec F S64x1024 .f32 := Host.absf main_arg0
  let main_cst : FVec F S_ .f32 := constant S_ .f32 0x7F800000#32
  let main_v1 : FVec F S64x1024 .f32 := broadcastInDim S64x1024 ![] bcast_S_S64x1024 main_cst
  let main_v2 : IVec S64x1024 1 := cmpf .olt main_v0 main_v1
  let main_v3 : FVec F S64x252x1024 .f32 := Host.absf main_arg2
  let main_cst_0 : FVec F S_ .f32 := constant S_ .f32 0x7F800000#32
  let main_v4 : FVec F S64x252x1024 .f32 := broadcastInDim S64x252x1024 ![] bcast_S_S64x252x1024 main_cst_0
  let main_v5 : IVec S64x252x1024 1 := cmpf .olt main_v3 main_v4
  let main_v6 : FVec F S64x1024 .f32 := Host.absf main_arg3
  let main_cst_1 : FVec F S_ .f32 := constant S_ .f32 0x7F800000#32
  let main_v7 : FVec F S64x1024 .f32 := broadcastInDim S64x1024 ![] bcast_S_S64x1024 main_cst_1
  let main_v8 : IVec S64x1024 1 := cmpf .olt main_v6 main_v7
  let main_v9 : FVec F S256x1024 .f32 := Host.absf main_arg4
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_v12 : FVec F S1024 .f32 := Host.absf main_arg5
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  (main_v2, main_v5, main_v8, main_v11, main_v14)
-- ==== Kernel.lean ====
abbrev S64x1024 : Shape := ⟨2, ![64, 1024]⟩
abbrev S64 : Shape := ⟨1, ![64]⟩
abbrev S64x252x1024 : Shape := ⟨3, ![64, 252, 1024]⟩
abbrev S256x1024 : Shape := ⟨2, ![256, 1024]⟩
abbrev S1024 : Shape := ⟨1, ![1024]⟩
abbrev S252x64x1024 : Shape := ⟨3, ![252, 64, 1024]⟩
abbrev S1x1024 : Shape := ⟨2, ![1, 1024]⟩
abbrev S64x256x1024 : Shape := ⟨3, ![64, 256, 1024]⟩
abbrev S252x8x1024 : Shape := ⟨3, ![252, 8, 1024]⟩
abbrev S8x1024 : Shape := ⟨2, ![8, 1024]⟩
abbrev S8x256x1024 : Shape := ⟨3, ![8, 256, 1024]⟩
abbrev S256x8x1024 : Shape := ⟨3, ![256, 8, 1024]⟩
abbrev S256x1x1024 : Shape := ⟨3, ![256, 1, 1024]⟩
abbrev S8x1 : Shape := ⟨2, ![8, 1]⟩
abbrev S1 : Shape := ⟨1, ![1]⟩
abbrev S1x8x1024 : Shape := ⟨3, ![1, 8, 1024]⟩
abbrev S4x8x1024 : Shape := ⟨3, ![4, 8, 1024]⟩
abbrev S256x8 : Shape := ⟨2, ![256, 8]⟩
abbrev S256x8x1 : Shape := ⟨3, ![256, 8, 1]⟩
abbrev S1x1x1024 : Shape := ⟨3, ![1, 1, 1024]⟩

abbrev nBuf : Space → Nat
  | .hbm => 13
  | .vmem => 13
  | .smem => 1
  | _ => 0

abbrev bufTy : (tb : Table) → Fin (tcTables nBuf tb) → BufTy
  | .hbm, ⟨0, _⟩ => ⟨S64x1024, .f32⟩
  | .hbm, ⟨1, _⟩ => ⟨S64, .i32⟩
  | .hbm, ⟨2, _⟩ => ⟨S64x252x1024, .f32⟩
  | .hbm, ⟨3, _⟩ => ⟨S64x1024, .f32⟩
  | .hbm, ⟨4, _⟩ => ⟨S256x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S252x64x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S64x256x1024, .f32⟩
  | .local _ .vmem, ⟨0, _⟩ => ⟨S252x8x1024, .f32⟩
  | .local _ .vmem, ⟨1, _⟩ => ⟨S252x8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S256x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S8x256x1024, .f32⟩
  | .local _ .vmem, ⟨11, _⟩ => ⟨S8x256x1024, .f32⟩
  | .local _ .vmem, ⟨12, _⟩ => ⟨S256x8x1024, .f32⟩
  | .local _ .smem, ⟨0, _⟩ => ⟨S64, .i32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_v0 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def k0_off1 (i : grid0.Coords) (c0_i32_11 : BitVec 32) : Fin 1 → Nat :=
  let arg0 : BitVec 32 := BitVec.ofNat 32 (i 0).val
  let c8_i32 : BitVec 32 := 8#32
  let v27 : BitVec 32 := Scalar.muli arg0 c8_i32
  let v28 : BitVec 32 := Scalar.addi v27 c0_i32_11
  let v29 : Index := Scalar.indexCast v28
  ![v29.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S64 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S252x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "half_pi" => some ((2⁻¹ * Real.pi : ℝ) : EReal)
  | _ => none
-- ==== ReferenceIdeal.lean ====
abbrev S64x1024 : Shape := ⟨2, ![64, 1024]⟩
abbrev S64 : Shape := ⟨1, ![64]⟩
abbrev S64x252x1024 : Shape := ⟨3, ![64, 252, 1024]⟩
abbrev S256x1024 : Shape := ⟨2, ![256, 1024]⟩
abbrev S1024 : Shape := ⟨1, ![1024]⟩
abbrev S64x1 : Shape := ⟨2, ![64, 1]⟩
abbrev S512 : Shape := ⟨1, ![512]⟩
abbrev S_ : Shape := ⟨0, ![]⟩
abbrev S64x1x512 : Shape := ⟨3, ![64, 1, 512]⟩
abbrev S64x512 : Shape := ⟨2, ![64, 512]⟩
abbrev S1x512 : Shape := ⟨2, ![1, 512]⟩
abbrev S1x1024 : Shape := ⟨2, ![1, 1024]⟩
abbrev S256 : Shape := ⟨1, ![256]⟩
abbrev S1x256 : Shape := ⟨2, ![1, 256]⟩
abbrev S64x256 : Shape := ⟨2, ![64, 256]⟩
abbrev S64x256x1 : Shape := ⟨3, ![64, 256, 1]⟩
abbrev S1 : Shape := ⟨1, ![1]⟩
abbrev S1x1x1 : Shape := ⟨3, ![1, 1, 1]⟩
abbrev S64x256x1024 : Shape := ⟨3, ![64, 256, 1024]⟩
abbrev S64x1x1024 : Shape := ⟨3, ![64, 1, 1024]⟩
abbrev S1x1x1024 : Shape := ⟨3, ![1, 1, 1024]⟩

abbrev nBuf : Space → Nat
  | .hbm => 112
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S64, .i32⟩
  | .hbm, ⟨2, _⟩ => ⟨S64x252x1024, .f32⟩
  | .hbm, ⟨3, _⟩ => ⟨S64x1024, .f32⟩
  | .hbm, ⟨4, _⟩ => ⟨S256x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S64x1, .i32⟩
  | .hbm, ⟨9, _⟩ => ⟨S64x1, .f32⟩
  | .hbm, ⟨10, _⟩ => ⟨S512, .f32⟩
  | .hbm, ⟨11, _⟩ => ⟨S_, .f32⟩
  | .hbm, ⟨12, _⟩ => ⟨S512, .f32⟩
  | .hbm, ⟨13, _⟩ => ⟨S512, .f32⟩
  | .hbm, ⟨14, _⟩ => ⟨S_, .f32⟩
  | .hbm, ⟨15, _⟩ => ⟨S512, .f32⟩
  | .hbm, ⟨16, _⟩ => ⟨S512, .f32⟩
  | .hbm, ⟨17, _⟩ => ⟨S_, .f32⟩
  | .hbm, ⟨18, _⟩ => ⟨S512, .f32⟩
  | .hbm, ⟨19, _⟩ => ⟨S512, .f32⟩
  | .hbm, ⟨20, _⟩ => ⟨S_, .f32⟩
  | .hbm, ⟨21, _⟩ => ⟨S512, .f32⟩
  | .hbm, ⟨22, _⟩ => ⟨S512, .f32⟩
  | .hbm, ⟨23, _⟩ => ⟨S_, .f32⟩
  | .hbm, ⟨24, _⟩ => ⟨S512, .f32⟩
  | .hbm, ⟨25, _⟩ => ⟨S512, .f32⟩
  | .hbm, ⟨26, _⟩ => ⟨S64x1x512, .f32⟩
  | .hbm, ⟨27, _⟩ => ⟨S64x512, .f32⟩
  | .hbm, ⟨28, _⟩ => ⟨S1x512, .f32⟩
  | .hbm, ⟨29, _⟩ => ⟨S64x512, .f32⟩
  | .hbm, ⟨30, _⟩ => ⟨S64x512, .f32⟩
  | .hbm, ⟨31, _⟩ => ⟨S64x512, .f32⟩
  | .hbm, ⟨32, _⟩ => ⟨S64x512, .f32⟩
  | .hbm, ⟨33, _⟩ => ⟨S64x1024, .f32⟩
  | .hbm, ⟨34, _⟩ => ⟨S1x1024, .f32⟩
  | .hbm, ⟨35, _⟩ => ⟨S64x1024, .f32⟩
  | .hbm, ⟨36, _⟩ => ⟨S256, .i32⟩
  | .hbm, ⟨37, _⟩ => ⟨S1x256, .i32⟩
  | .hbm, ⟨38, _⟩ => ⟨S64x256, .i32⟩
  | .hbm, ⟨39, _⟩ => ⟨S_, .i32⟩
  | .hbm, ⟨40, _⟩ => ⟨S64x256, .i32⟩
  | .hbm, ⟨41, _⟩ => ⟨S64x256, .i1⟩
  | .hbm, ⟨42, _⟩ => ⟨S_, .i32⟩
  | .hbm, ⟨43, _⟩ => ⟨S64x256, .i32⟩
  | .hbm, ⟨44, _⟩ => ⟨S64x256, .i32⟩
  | .hbm, ⟨45, _⟩ => ⟨S64x256, .i32⟩
  | .hbm, ⟨46, _⟩ => ⟨S64x256x1, .i32⟩
  | .hbm, ⟨47, _⟩ => ⟨S1, .i32⟩
  | .hbm, ⟨48, _⟩ => ⟨S_, .i32⟩
  | .hbm, ⟨49, _⟩ => ⟨S64x256x1, .i32⟩
  | .hbm, ⟨50, _⟩ => ⟨S64x256x1, .i1⟩
  | .hbm, ⟨51, _⟩ => ⟨S1x1x1, .i32⟩
  | .hbm, ⟨52, _⟩ => ⟨S64x256x1, .i32⟩
  | .hbm, ⟨53, _⟩ => ⟨S64x256x1, .i1⟩
  | .hbm, ⟨54, _⟩ => ⟨S64x256x1, .i1⟩
  | .hbm, ⟨55, _⟩ => ⟨S_, .i1⟩
  | .hbm, ⟨56, _⟩ => ⟨S64x256, .i1⟩
  | .hbm, ⟨57, _⟩ => ⟨S64x256x1024, .f32⟩
  | .hbm, ⟨58, _⟩ => ⟨S64x256x1024, .i1⟩
  | .hbm, ⟨59, _⟩ => ⟨S_, .f32⟩
  | .hbm, ⟨60, _⟩ => ⟨S64x256x1024, .f32⟩
  | .hbm, ⟨61, _⟩ => ⟨S64x256x1024, .f32⟩
  | .hbm, ⟨62, _⟩ => ⟨S64x1x1024, .f32⟩
  | .hbm, ⟨63, _⟩ => ⟨S64x1x1024, .f32⟩
  | .hbm, ⟨64, _⟩ => ⟨S64x1x1024, .f32⟩
  | .hbm, ⟨65, _⟩ => ⟨S64x1x1024, .f32⟩
  | .hbm, ⟨66, _⟩ => ⟨S64x256x1024, .f32⟩
  | .hbm, ⟨67, _⟩ => ⟨S64x256x1024, .f32⟩
  | .hbm, ⟨68, _⟩ => ⟨S_, .f32⟩
  | .hbm, ⟨69, _⟩ => ⟨S64x256, .f32⟩
  | .hbm, ⟨70, _⟩ => ⟨S64x256x1, .f32⟩
  | .hbm, ⟨71, _⟩ => ⟨S_, .f32⟩
  | .hbm, ⟨72, _⟩ => ⟨S64x256x1, .f32⟩
  | .hbm, ⟨73, _⟩ => ⟨S64x256x1, .f32⟩
  | .hbm, ⟨74, _⟩ => ⟨S_, .i32⟩
  | .hbm, ⟨75, _⟩ => ⟨S_, .f32⟩
  | .hbm, ⟨76, _⟩ => ⟨S64x256, .f32⟩
  | .hbm, ⟨77, _⟩ => ⟨S64x256x1, .f32⟩
  | .hbm, ⟨78, _⟩ => ⟨S_, .f32⟩
  | .hbm, ⟨79, _⟩ => ⟨S64x256x1, .f32⟩
  | .hbm, ⟨80, _⟩ => ⟨S64x256x1, .f32⟩
  | .hbm, ⟨81, _⟩ => ⟨S64x256x1024, .f32⟩
  | .hbm, ⟨82, _⟩ => ⟨S64x256x1024, .f32⟩
  | .hbm, ⟨83, _⟩ => ⟨S64x256x1024, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S64x256, .f32⟩
  | .hbm, ⟨89, _⟩ => ⟨S64x256x1, .f32⟩
  | .hbm, ⟨90, _⟩ => ⟨S64x256x1, .f32⟩
  | .hbm, ⟨91, _⟩ => ⟨S64x256x1, .f32⟩
  | .hbm, ⟨92, _⟩ => ⟨S_, .f32⟩
  | .hbm, ⟨93, _⟩ => ⟨S_, .i1⟩
  | .hbm, ⟨94, _⟩ => ⟨S_, .f32⟩
  | .hbm, ⟨95, _⟩ => ⟨S_, .f32⟩
  | .hbm, ⟨96, _⟩ => ⟨S64x256x1, .f32⟩
  | .hbm, ⟨97, _⟩ => ⟨S64x256x1, .f32⟩
  | .hbm, ⟨98, _⟩ => ⟨S64x256x1024, .f32⟩
  | .hbm, ⟨99, _⟩ => ⟨S64x256x1024, .f32⟩
  | .hbm, ⟨100, _⟩ => ⟨S_, .f32⟩
  | .hbm, ⟨101, _⟩ => ⟨S64x256x1, .f32⟩
  | .hbm, ⟨102, _⟩ => ⟨S64x256x1, .f32⟩
  | .hbm, ⟨103, _⟩ => ⟨S64x256x1, .f32⟩
  | .hbm, ⟨104, _⟩ => ⟨S64x256x1024, .f32⟩
  | .hbm, ⟨105, _⟩ => ⟨S64x256x1024, .f32⟩
  | .hbm, ⟨106, _⟩ => ⟨S1x1x1024, .f32⟩
  | .hbm, ⟨107, _⟩ => ⟨S64x256x1024, .f32⟩
  | .hbm, ⟨108, _⟩ => ⟨S64x256x1024, .f32⟩
  | .hbm, ⟨109, _⟩ => ⟨S1x1x1024, .f32⟩
  | .hbm, ⟨110, _⟩ => ⟨S64x256x1024, .f32⟩
  | .hbm, ⟨111, _⟩ => ⟨S64x256x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call0_c : Ref sig .tc := ⟨.hbm, 39, rfl⟩
abbrev main_call0_v0 : Ref sig .tc := ⟨.hbm, 40, rfl⟩
abbrev main_call0_v1 : Ref sig .tc := ⟨.hbm, 41, rfl⟩
abbrev main_call0_c_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_c_1 : Ref sig .tc := ⟨.hbm, 47, rfl⟩
abbrev main_call0_c_2 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_3 : Ref sig .tc := ⟨.hbm, 55, rfl⟩
abbrev main_call0_v12 : Ref sig .tc := ⟨.hbm, 56, rfl⟩
abbrev main_call0_v13 : Ref sig .tc := ⟨.hbm, 57, rfl⟩
abbrev main_call0_v14 : Ref sig .tc := ⟨.hbm, 58, rfl⟩
abbrev main_call0_cst : Ref sig .tc := ⟨.hbm, 59, rfl⟩
abbrev main_call0_v15 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_cst_4 : Ref sig .tc := ⟨.hbm, 68, rfl⟩
abbrev main_v33 : Ref sig .tc := ⟨.hbm, 69, rfl⟩
abbrev main_v34 : Ref sig .tc := ⟨.hbm, 70, rfl⟩
abbrev main_cst_5 : Ref sig .tc := ⟨.hbm, 71, rfl⟩
abbrev main_v35 : Ref sig .tc := ⟨.hbm, 72, rfl⟩
abbrev main_v36 : Ref sig .tc := ⟨.hbm, 73, rfl⟩
abbrev main_c : Ref sig .tc := ⟨.hbm, 74, rfl⟩
abbrev main_call1_cst : Ref sig .tc := ⟨.hbm, 75, rfl⟩
abbrev main_call1_v0 : Ref sig .tc := ⟨.hbm, 76, rfl⟩
abbrev main_call1_v1 : Ref sig .tc := ⟨.hbm, 77, rfl⟩
abbrev main_call1_cst_0 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_v6 : Ref sig .tc := ⟨.hbm, 83, rfl⟩
abbrev main_call1_v7 : Ref sig .tc := ⟨.hbm, 84, rfl⟩
abbrev main_call1_cst_1 : Ref sig .tc := ⟨.hbm, 85, rfl⟩
abbrev main_call1_v8 : Ref sig .tc := ⟨.hbm, 86, rfl⟩
abbrev main_call1_cst_2 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_v12 : Ref sig .tc := ⟨.hbm, 91, rfl⟩
abbrev main_call1_cst_3 : Ref sig .tc := ⟨.hbm, 92, rfl⟩
abbrev main_call1_v13 : Ref sig .tc := ⟨.hbm, 93, rfl⟩
abbrev main_call1_cst_4 : Ref sig .tc := ⟨.hbm, 94, rfl⟩
abbrev main_call1_call0_v0 : Ref sig .tc := ⟨.hbm, 95, rfl⟩
abbrev main_call1_call0_v1 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_cst_6 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩

abbrev nD : Nat := 1
abbrev τ : Topo := Topo.v7x

variable {F : FTy → Type} [FloatOps F]
-- ==== Proof.Row.lean ====
/- The real-number content of the certificate, with no program in sight: the words both programs use, as real numbers;
   one row of a layer normalization, where the variance as mean of squares minus square of the mean equals the mean of
   the squared deviations; and one entry of the time embedding, where `exp (i · (−log 10000 / 512))` equals
   `1 / 10000 ^ (2 i / 1024)` and a sine moved by a quarter turn is a cosine. -/
module

public import Idealize.ShloMosaic.PureOps.Ideal.Laws
public import Idealize.ShloMosaic.Lib.IdealHost
public import Mathlib.Analysis.SpecialFunctions.Pow.Real
public import Mathlib.Analysis.SpecialFunctions.Trigonometric.Basic

@[expose] public section

noncomputable section

namespace Cert.Row

open Idealize.ShloMosaic

/-! ## The words -/

/-- The reciprocal of the row length. -/
theorem word_recip : Ideal.ofBits .f32 0x3A800000#32 = (((1 : ℝ) / 1024 : ℝ) : EReal) := by
  simp [Ideal.ofBits, Ideal.ieee, -EReal.coe_mul]; norm_num

/-- The row length. -/
theorem word_length : Ideal.ofBits .f32 0x44800000#32 = ((1024 : ℝ) : EReal) := by
  simp [Ideal.ofBits, Ideal.ieee, -EReal.coe_mul]; norm_num

/-- Half the row length. -/
theorem word_half : Ideal.ofBits .f32 0x44000000#32 = ((512 : ℝ) : EReal) := by
  simp [Ideal.ofBits, Ideal.ieee, -EReal.coe_mul]; norm_num

/-- The base of the frequencies. -/
theorem word_base : Ideal.ofBits .f32 0x461C4000#32 = ((10000 : ℝ) : EReal) := by
  simp [Ideal.ofBits, Ideal.ieee, -EReal.coe_mul]; norm_num

/-- Two. -/
theorem word_two : Ideal.ofBits .f32 0x40000000#32 = ((2 : ℝ) : EReal) := by
  simp [Ideal.ofBits, Ideal.ieee, -EReal.coe_mul]; norm_num

/-- What is added to the variance is a positive real. -/
theorem word_eps : ∃ e : ℝ, 0 < e ∧ Ideal.ofBits .f32 0x3727C5AC#32 = (e : EReal) := by
  refine ⟨_, ?_, by simp [Ideal.ofBits, Ideal.ieee, -EReal.coe_mul]; rfl⟩
  norm_num

/-- The bound of the precondition is infinity. -/
theorem word_top : Ideal.ofBits .f32 0x7F800000#32 = ⊤ := by
  simp [Ideal.ofBits, Ideal.ieee]

/-! ## One row -/

/-- The mean as the kernel takes it: the sum times the reciprocal. -/
def kernelMean (X : Fin 1024 → EReal) : EReal := (∑ k, X k) * Ideal.ofBits .f32 0x3A800000#32

/-- The variance as the kernel takes it: the mean of the squares minus the square of the mean. -/
def kernelVar (X : Fin 1024 → EReal) : EReal :=
  (∑ k, X k * X k) * Ideal.ofBits .f32 0x3A800000#32 - kernelMean X * kernelMean X

/-- One entry of the kernel's normalized row, scaled by `g` and moved by `b`. -/
def kernelRow (X : Fin 1024 → EReal) (g b : EReal) (l : Fin 1024) : EReal :=
  (X l - kernelMean X) * Ideal.rsqrt (kernelVar X + Ideal.ofBits .f32 0x3727C5AC#32) * g + b

/-- The mean as the reference takes it: the sum over the length. -/
def referenceMean (X : Fin 1024 → EReal) : EReal := Ideal.div (0 + ∑ k, X k) (Ideal.ofBits .f32 0x44800000#32)

/-- The variance as the reference takes it: the mean of the squared deviations. -/
def referenceVar (X : Fin 1024 → EReal) : EReal :=
  Ideal.div (0 + ∑ k, (X k - referenceMean X) * (X k - referenceMean X)) (Ideal.ofBits .f32 0x44800000#32 - 0)

/-- One entry of the reference's normalized row, scaled by `g` and moved by `b`. -/
def referenceRow (X : Fin 1024 → EReal) (g b : EReal) (l : Fin 1024) : EReal :=
  Ideal.div (X l - referenceMean X) (Ideal.sqrt (referenceVar X + Ideal.ofBits .f32 0x3727C5AC#32)) * g + b

/-- The reals behind a sum of real extended reals. -/
theorem coe_sum (f : Fin 1024 → ℝ) : ∑ k, ((f k : ℝ) : EReal) = ((∑ k, f k : ℝ) : EReal) :=
  (map_sum (⟨⟨fun r : ℝ => (r : EReal), rfl⟩, EReal.coe_add⟩ : ℝ →+ EReal) f Finset.univ).symm

/-- The mean of the squared deviations, expanded. -/
theorem variance_eq (f : Fin 1024 → ℝ) :
    (∑ k, (f k - (∑ j, f j) * (1 / 1024)) * (f k - (∑ j, f j) * (1 / 1024))) * (1 / 1024)
      = (∑ k, f k * f k) * (1 / 1024) - ((∑ j, f j) * (1 / 1024)) * ((∑ j, f j) * (1 / 1024)) := by
  generalize hM : (∑ j, f j) * (1 / 1024 : ℝ) = M
  have h1 : ∀ k, (f k - M) * (f k - M) = f k * f k - 2 * M * f k + M * M := fun k => by ring
  have hs : ∑ j, f j = 1024 * M := by rw [← hM]; ring
  simp only [h1, Finset.sum_add_distrib, Finset.sum_sub_distrib, ← Finset.mul_sum, hs, Finset.sum_const,
    Finset.card_univ, Fintype.card_fin, nsmul_eq_mul]
  push_cast
  ring

/-- The two means of a row of reals. -/
theorem mean_eq (f : Fin 1024 → ℝ) :
    kernelMean (fun k => (f k : EReal)) = (((∑ j, f j) * (1 / 1024) : ℝ) : EReal)
    ∧ referenceMean (fun k => (f k : EReal)) = (((∑ j, f j) * (1 / 1024) : ℝ) : EReal) := by
  constructor
  · rw [kernelMean, coe_sum, word_recip, ← EReal.coe_mul]
  · rw [referenceMean, coe_sum, word_length, zero_add, Ideal.div_coe (by norm_num), ← EReal.coe_mul]

/-- The two variances of a row of reals agree, and are a nonnegative real. -/
theorem var_eq (f : Fin 1024 → ℝ) :
    ∃ v : ℝ, 0 ≤ v ∧ kernelVar (fun k => (f k : EReal)) = (v : EReal) ∧ referenceVar (fun k => (f k : EReal)) = (v : EReal) := by
  refine ⟨(∑ k, (f k - (∑ j, f j) * (1 / 1024)) * (f k - (∑ j, f j) * (1 / 1024))) * (1 / 1024),
    mul_nonneg (Finset.sum_nonneg fun k _ => mul_self_nonneg _) (by norm_num), ?_, ?_⟩
  · rw [variance_eq, kernelVar, (mean_eq f).1, word_recip]
    simp only [← EReal.coe_mul]
    rw [coe_sum, ← EReal.coe_mul, ← EReal.coe_sub]
  · rw [referenceVar, (mean_eq f).2, word_length, sub_zero, Ideal.div_coe (by norm_num)]
    simp only [← EReal.coe_mul, ← EReal.coe_sub]
    rw [coe_sum, zero_add, ← EReal.coe_mul]

/-- A ROW OF REALS is normalized alike by both, whatever the scale and the offset. -/
theorem row_eq (X : Fin 1024 → EReal) (hX : ∀ k, ∃ r : ℝ, X k = (r : EReal)) (g b : EReal) (l : Fin 1024) :
    kernelRow X g b l = referenceRow X g b l := by
  choose f hf using hX
  obtain rfl : X = fun k => (f k : EReal) := funext hf
  obtain ⟨v, hv, hk, hr⟩ := var_eq f
  obtain ⟨e, he, hw⟩ := word_eps
  have hp : 0 < v + e := by linarith
  have hs : Real.sqrt (v + e) ≠ 0 := (Real.sqrt_pos.mpr hp).ne'
  rw [kernelRow, referenceRow, hk, hr, (mean_eq f).1, (mean_eq f).2, hw, ← EReal.coe_add]
  have e1 : Ideal.rsqrt ((v + e : ℝ) : EReal) = (((Real.sqrt (v + e))⁻¹ : ℝ) : EReal) := by
    rw [Ideal.rsqrt_coe, if_neg hp.not_gt, if_neg hp.ne']
  have e2 : Ideal.sqrt ((v + e : ℝ) : EReal) = ((Real.sqrt (v + e) : ℝ) : EReal) := by
    rw [Ideal.sqrt_coe, if_neg hp.not_gt]
  rw [e1, e2, Ideal.div_coe hs, one_div (Real.sqrt (v + e))]

/-! ## One entry of the time embedding -/

/-- The frequency as the kernel takes it: an exponential of a multiple of the logarithm. -/
def kernelFreq (i : EReal) : EReal :=
  Ideal.exp (i * Ideal.div (0 - Ideal.log (Ideal.ofBits .f32 0x461C4000#32)) (Ideal.ofBits .f32 0x44000000#32))

/-- The frequency as the reference takes it: the reciprocal of a power. -/
def referenceFreq (i : EReal) : EReal :=
  Ideal.div 1 (Ideal.pow (Ideal.ofBits .f32 0x461C4000#32)
    (Ideal.div (0 + Ideal.ofBits .f32 0x40000000#32 * i) (Ideal.ofBits .f32 0x44800000#32)))

/-- The two frequencies at a real are the same real. -/
theorem freq_eq (i : ℝ) : ∃ w : ℝ, kernelFreq (i : EReal) = (w : EReal) ∧ referenceFreq (i : EReal) = (w : EReal) := by
  refine ⟨Real.exp (i * ((0 - Real.log 10000) * (1 / 512))), ?_, ?_⟩
  · rw [kernelFreq, word_base, word_half, Ideal.log_coe, if_neg (by norm_num), Ideal.div_coe (by norm_num)]
    rw [← EReal.coe_zero, ← EReal.coe_sub, ← EReal.coe_mul, ← EReal.coe_mul]
    rfl
  · rw [referenceFreq, word_base, word_two, word_length, Ideal.div_coe (by norm_num), zero_add, ← EReal.coe_mul,
      ← EReal.coe_mul]
    show Ideal.div 1 ((Real.rpow 10000 (2 * i * (1 / 1024)) : ℝ) : EReal) = _
    have hp : (0 : ℝ) < Real.rpow 10000 (2 * i * (1 / 1024)) := Real.rpow_pos_of_pos (by norm_num) _
    rw [Ideal.div_coe hp.ne', one_mul, one_div]
    congr 1
    rw [Real.rpow_eq_pow, Real.rpow_def_of_pos (by norm_num), ← Real.exp_neg]
    congr 1
    ring

/-- The first half of the embedding: a sine on both sides. -/
theorem sin_eq (x i : ℝ) :
    Ideal.sin ((x : EReal) * kernelFreq (i : EReal) + 0) = Ideal.sin ((x : EReal) * referenceFreq (i : EReal)) := by
  obtain ⟨w, hk, hr⟩ := freq_eq i
  rw [hk, hr, add_zero]

/-- The second half: a sine a quarter turn ahead is the cosine. -/
theorem cos_eq (x i : ℝ) :
    Ideal.sin ((x : EReal) * kernelFreq (i : EReal) + ((2⁻¹ * Real.pi : ℝ) : EReal))
      = Ideal.cos ((x : EReal) * referenceFreq (i : EReal)) := by
  obtain ⟨w, hk, hr⟩ := freq_eq i
  rw [hk, hr, ← EReal.coe_mul, ← EReal.coe_add]
  show ((Real.sin (x * w + 2⁻¹ * Real.pi) : ℝ) : EReal) = ((Real.cos (x * w) : ℝ) : EReal)
  rw [show x * w + 2⁻¹ * Real.pi = x * w + Real.pi / 2 by ring, Real.sin_add_pi_div_two]

/-- Either half is a real. -/
theorem sin_real (x i : ℝ) : ∃ r : ℝ, Ideal.sin ((x : EReal) * referenceFreq (i : EReal)) = (r : EReal) := by
  obtain ⟨w, -, hr⟩ := freq_eq i
  rw [hr, ← EReal.coe_mul]
  exact ⟨_, rfl⟩

/-- Either half is a real. -/
theorem cos_real (x i : ℝ) : ∃ r : ℝ, Ideal.cos ((x : EReal) * referenceFreq (i : EReal)) = (r : EReal) := by
  obtain ⟨w, -, hr⟩ := freq_eq i
  rw [hr, ← EReal.coe_mul]
  exact ⟨_, rfl⟩

end Cert.Row

end
-- ==== Proof.Tokens.lean ====
/- The array both programs normalize, entry by entry: the encoded text, the text embedding, the time embedding, the image
   embedding and the final embedding one below the other, plus the position embedding. -/
module

public import proofs.«01_k».proof.Proof.Row
public import Idealize.ShloMosaic.Lib.Pointwise

@[expose] public section

noncomputable section

namespace Cert.Tokens

open Idealize.ShloMosaic

/-- A step number as an extended real. -/
def step (t : BitVec 32) : EReal := ((t.toInt : ℝ) : EReal)

/-- A small number written as a word and read back. -/
theorem step_ofNat (n : ℕ) (h : n < 1024) : step (BitVec.ofNat 32 n) = ((n : ℝ) : EReal) := by
  have hn : (BitVec.ofNat 32 n).toNat = n := by rw [BitVec.toNat_ofNat]; omega
  have hi : (BitVec.ofNat 32 n).toInt = (n : ℤ) := by
    rw [BitVec.toInt_eq_toNat_of_lt (by omega), hn]
  rw [step, hi, Int.cast_natCast]

/-- Entry `l` of the time embedding of step `t`: sines in the first half, cosines in the second. -/
def timeEntry (t : BitVec 32) (l : Fin 1024) : EReal :=
  if l.val < 512 then Ideal.sin (step t * Row.referenceFreq ((l.val : ℝ) : EReal))
  else Ideal.cos (step t * Row.referenceFreq (((l.val - 512 : ℕ) : ℝ) : EReal))

/-- Entry `l` of the time embedding of step `t` in the kernel's form: a sine in both halves, moved by a phase. -/
def kernelTimeEntry (t : BitVec 32) (l : Fin 1024) : EReal :=
  if l.val < 512 then Ideal.sin (step t * Row.kernelFreq ((l.val : ℝ) : EReal) + 0)
  else Ideal.sin (step t * Row.kernelFreq (((l.val - 512 : ℕ) : ℝ) : EReal) + ((2⁻¹ * Real.pi : ℝ) : EReal))

/-- The two forms agree. -/
theorem kernelTimeEntry_eq (t : BitVec 32) (l : Fin 1024) : kernelTimeEntry t l = timeEntry t l := by
  unfold kernelTimeEntry timeEntry step
  by_cases h : l.val < 512
  · rw [if_pos h, if_pos h, Row.sin_eq]
  · rw [if_neg h, if_neg h, Row.cos_eq]

/-- An entry of the time embedding is a real. -/
theorem timeEntry_real (t : BitVec 32) (l : Fin 1024) : ∃ r : ℝ, timeEntry t l = (r : EReal) := by
  unfold timeEntry step
  by_cases h : l.val < 512
  · rw [if_pos h]; exact Row.sin_real _ _
  · rw [if_neg h]; exact Row.cos_real _ _

/-- Row `s` of the stack: from the text row where `s < 252`, then the four single rows. -/
def stack (s : ℕ) (txt : s < 252 → EReal) (c e i f : EReal) : EReal :=
  if h : s < 252 then txt h else if s < 253 then c else if s < 254 then e else if s < 255 then i else f

/-- Entry `(b, s, l)` of what is normalized. -/
def token (img : (⟨2, ![64, 1024]⟩ : Shape).Idx → EReal) (t : (⟨1, ![64]⟩ : Shape).Idx → BitVec 32)
    (txt : (⟨3, ![64, 252, 1024]⟩ : Shape).Idx → EReal) (ctxt : (⟨2, ![64, 1024]⟩ : Shape).Idx → EReal)
    (pe : (⟨2, ![256, 1024]⟩ : Shape).Idx → EReal) (fin : (⟨1, ![1024]⟩ : Shape).Idx → EReal)
    (b : Fin 64) (s : Fin 256) (l : Fin 1024) : EReal :=
  stack s.val (fun h => txt (ix3 b ⟨s.val, h⟩ l)) (ctxt (ix2 b l)) (timeEntry (t (ix1 b)) l) (img (ix2 b l)) (fin (ix1 l))
    + pe (ix2 s l)

/-- Of real embeddings every entry is a real. -/
theorem token_real {img t txt ctxt pe fin} (h0 : ∀ i, ∃ r : ℝ, img i = (r : EReal)) (h2 : ∀ i, ∃ r : ℝ, txt i = (r : EReal))
    (h3 : ∀ i, ∃ r : ℝ, ctxt i = (r : EReal)) (h4 : ∀ i, ∃ r : ℝ, pe i = (r : EReal))
    (h5 : ∀ i, ∃ r : ℝ, fin i = (r : EReal)) (b : Fin 64) (s : Fin 256) (l : Fin 1024) :
    ∃ r : ℝ, token img t txt ctxt pe fin b s l = (r : EReal) := by
  have hs : ∃ r : ℝ, stack s.val (fun h => txt (ix3 b ⟨s.val, h⟩ l)) (ctxt (ix2 b l)) (timeEntry (t (ix1 b)) l)
      (img (ix2 b l)) (fin (ix1 l)) = (r : EReal) := by
    unfold stack
    split
    · exact h2 _
    · split
      · exact h3 _
      · split
        · exact timeEntry_real _ _
        · split
          · exact h0 _
          · exact h5 _
  obtain ⟨p, hp⟩ := hs
  obtain ⟨q, hq⟩ := h4 (ix2 s l)
  exact ⟨p + q, by rw [token, hp, hq, EReal.coe_add]⟩

end Cert.Tokens

end
-- ==== Proof.Pieces.lean ====
/- What one grid point leaves, as a term of the blocks it is given. -/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Pieces

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- The eight step numbers a grid point reads, one per row of its block. -/
def words (x0 : Vec Ideal S64 .i32) (t : Fin cfg0.N) (i : Fin 8) : BitVec 32 :=
  x0 ((Rect.unit (s := S64) (k0_off1 (grid0.coords t) (BitVec.ofNat 32 i.val)) ![1] (k0_off1_inb (grid0.coords t) i)).idx
    (Shape.Idx.first (show 0 < S1.numel by decide)))

/-- Row numbers, one per row of the block. -/
abbrev rows : IVec S8x1 32 := iota .tc S8x1 32 [0] iota_S8x1_d0_w32

/-- What is normalized at one grid point: the stack of the blocks plus the scratch. -/
def summed (T : Fin 8 → BitVec 32) (x1 : Vec Ideal S252x8x1024 .f32) (x2 x3 : Vec Ideal S8x1024 .f32) (x5 : Vec Ideal S1x1024 .f32)
    (s : Vec Ideal S256x8x1024 .f32) : FVec Ideal S256x8x1024 .f32 :=
  k0_pay10 (k0_pay3 x1) k0_pay4 k0_pay5 rows (k0_pay8 rows (k0_pay6 (F := Ideal) (T 0)) k0_pay7 (T 1) (T 2) (T 3) (T 4) (T 5))
    (k0_pay9 rows) (T 6) (T 7) x2 x3 x5 s

/-- The means of one grid point. -/
def means (T : Fin 8 → BitVec 32) (x1 : Vec Ideal S252x8x1024 .f32) (x2 x3 : Vec Ideal S8x1024 .f32) (x5 : Vec Ideal S1x1024 .f32)
    (s : Vec Ideal S256x8x1024 .f32) : FVec Ideal S256x8x1 .f32 :=
  k0_pay11 (k0_pay3 x1) k0_pay4 k0_pay5 rows (k0_pay8 rows (k0_pay6 (F := Ideal) (T 0)) k0_pay7 (T 1) (T 2) (T 3) (T 4) (T 5))
    (k0_pay9 rows) (T 6) (T 7) x2 x3 x5 s

/-- The variances of one grid point. -/
def variances (T : Fin 8 → BitVec 32) (x1 : Vec Ideal S252x8x1024 .f32) (x2 x3 : Vec Ideal S8x1024 .f32) (x5 : Vec Ideal S1x1024 .f32)
    (s : Vec Ideal S256x8x1024 .f32) : FVec Ideal S256x8x1 .f32 :=
  k0_pay12 (k0_pay3 x1) k0_pay4 k0_pay5 rows (k0_pay8 rows (k0_pay6 (F := Ideal) (T 0)) k0_pay7 (T 1) (T 2) (T 3) (T 4) (T 5))
    (k0_pay9 rows) (T 6) (T 7) x2 x3 x5 s

/-- What one grid point writes, of its blocks and its scratch. -/
def block (T : Fin 8 → BitVec 32) (x1 : Vec Ideal S252x8x1024 .f32) (x2 x3 : Vec Ideal S8x1024 .f32) (x5 x6 x7 : Vec Ideal S1x1024 .f32)
    (s : Vec Ideal S256x8x1024 .f32) : FVec Ideal S8x256x1024 .f32 :=
  k0_pay1 (summed T x1 x2 x3 x5 s) (means T x1 x2 x3 x5 s) (variances T x1 x2 x3 x5 s) (FloatOps.ofBits .f32 0x3727C5AC#32) x6 x7

/-! ## The two cases of a grid point -/

/-- The first point fills the scratch from the position embedding. -/
theorem first_scratch (c : Dev nD) (t : Fin cfg0.N) (h0 : t.val % 8 = 0) :
    (outsAt0 m c t.val t.isLt).2 = k0_pay2 (F := Ideal) (iblk m c 4 t) := by
  rw [outsAt0_A m c t h0]
  frame_out

/-- The first point's output, over the scratch it has just filled. -/
theorem first_out (c : Dev nD) (t : Fin cfg0.N) (h0 : t.val % 8 = 0) :
    (outsAt0 m c t.val t.isLt).1 = block (words (iblk m c 0 t) t) (iblk m c 1 t) (iblk m c 2 t) (iblk m c 3 t) (iblk m c 5 t)
      (iblk m c 6 t) (iblk m c 7 t) (k0_pay2 (F := Ideal) (iblk m c 4 t)) := by
  rw [outsAt0_A m c t h0]
  frame_out
  rfl

/-- A later point's output, over the scratch the point before left. -/
theorem later_out (c : Dev nD) (t : Fin cfg0.N) (h0 : ¬t.val % 8 = 0) :
    (outsAt0 m c t.val t.isLt).1 = block (words (iblk m c 0 t) t) (iblk m c 1 t) (iblk m c 2 t) (iblk m c 3 t) (iblk m c 5 t)
      (iblk m c 6 t) (iblk m c 7 t) (outsAt0 m c (t.val - 1) (lt_of_le_of_lt (Nat.sub_le _ _) t.isLt)).2 := by
  rw [outsAt0_B m c t h0]
  frame_out
  simp only [read_unread_whole]
  rfl

/-- A later point leaves the scratch as it was. -/
theorem later_scratch (c : Dev nD) (t : Fin cfg0.N) (h0 : ¬t.val % 8 = 0) :
    (outsAt0 m c t.val t.isLt).2 = (outsAt0 m c (t.val - 1) (lt_of_le_of_lt (Nat.sub_le _ _) t.isLt)).2 := by
  rw [outsAt0_B m c t h0]
  rfl

/-! ## The blocks that do not depend on the point -/

/-- The scratch after any point is the one filled at the first. -/
theorem scratch (c : Dev nD) (n : ℕ) (hn : n < cfg0.N) :
    (outsAt0 m c n hn).2 = k0_pay2 (F := Ideal) (iblk m c 4 ⟨0, lt_of_lt_of_eq (by decide : 0 < 8) N_0.symm⟩) := by
  induction n with
  | zero => exact first_scratch m c ⟨0, hn⟩ rfl
  | succ n ih =>
    have hN : n + 1 < 8 := lt_of_lt_of_eq hn N_0
    exact (later_scratch m c ⟨n + 1, hn⟩ (by show ¬(n + 1) % 8 = 0; omega)).trans (ih (Nat.lt_of_succ_lt hn))

/-- What point `t` writes. -/
theorem out (c : Dev nD) (t : Fin cfg0.N) :
    (outsAt0 m c t.val t.isLt).1 = block (words (iblk m c 0 t) t) (iblk m c 1 t) (iblk m c 2 t) (iblk m c 3 t) (iblk m c 5 t)
      (iblk m c 6 t) (iblk m c 7 t) (k0_pay2 (F := Ideal) (iblk m c 4 ⟨0, lt_of_lt_of_eq (by decide : 0 < 8) N_0.symm⟩)) := by
  by_cases h0 : t.val % 8 = 0
  · have hN : t.val < 8 := lt_of_lt_of_eq t.isLt N_0
    obtain rfl : t = ⟨0, lt_of_lt_of_eq (by decide : 0 < 8) N_0.symm⟩ := Fin.ext (show t.val = 0 by omega)
    exact first_out m c _ h0
  · rw [later_out m c t h0, scratch]

end Cert.KernelIdeal.Pieces

end
-- ==== Proof.Block.lean ====
/- One grid point's block read at an index: a row of what is normalized, normalized the kernel's way. -/
module

public import proofs.«01_k».proof.Proof.Tokens
public import proofs.«01_k».proof.Proof.Pieces

@[expose] public section

set_option maxRecDepth 16384

noncomputable section

namespace Cert.KernelIdeal.Block

open Cert.KernelIdeal Cert.KernelIdeal.Gen Cert.KernelIdeal.Pieces Cert.Tokens
open Idealize.ShloMosaic Idealize.ShloMosaic.TcCoe Idealize.SL.Sem

/-- A column of the first half compares below the half. -/
theorem word_lo : ∀ k : Fin 1024, k.val < 512 → IntOp.cmpi .slt (BitVec.ofNat 32 k.val) 512#32 = 1#1 := by decide +kernel
/-- A column of the second half does not, and is folded back by the half. -/
theorem word_hi : ∀ k : Fin 1024, ¬k.val < 512 → IntOp.cmpi .slt (BitVec.ofNat 32 k.val) 512#32 = 0#1
    ∧ IntOp.subi (BitVec.ofNat 32 k.val) 512#32 = BitVec.ofNat 32 (k.val - 512) := by decide +kernel

/-- The frequencies the kernel computes, column by column. -/
theorem freq (r : Fin 8) (k : Fin 1024) : k0_pay4 (F := Ideal) (ix2 r k)
    = Row.kernelFreq (((if k.val < 512 then k.val else k.val - 512 : ℕ) : ℝ) : EReal) := by
  unfold Row.kernelFreq
  pointwise [k0_pay4]
  have e : FloatOps.sitofp (F := Ideal) FTy.f32 (Scalar.select (IntOp.cmpi CmpIPredicate.slt (BitVec.ofNat 32 k.val) 512#32)
      (BitVec.ofNat 32 k.val) (IntOp.subi (BitVec.ofNat 32 k.val) 512#32))
      = (((if k.val < 512 then k.val else k.val - 512 : ℕ) : ℝ) : EReal) := by
    by_cases h : k.val < 512
    · rw [word_lo k h, if_pos h]
      exact step_ofNat k.val k.isLt
    · rw [(word_hi k h).1, (word_hi k h).2, if_neg h]
      exact step_ofNat (k.val - 512) (by omega)
  rw [e]
  rfl

/-- The phases: none in the first half, a quarter turn in the second. -/
theorem phase (r : Fin 8) (k : Fin 1024) : k0_pay5 (F := Ideal) (ix2 r k)
    = if k.val < 512 then (0 : EReal) else ((2⁻¹ * Real.pi : ℝ) : EReal) := by
  pointwise [k0_pay5]
  rw [show Named.named (F := Ideal) (φ := .f32) κ "half_pi" 0x3FC90FDB#32 = ((2⁻¹ * Real.pi : ℝ) : EReal) from
    IdealRules.named_const.ideal_named_scalar _ _ _ _ rfl]
  by_cases h : k.val < 512
  · rw [word_lo k h, if_pos h]
    rfl
  · rw [(word_hi k h).1, if_neg h]
    rfl

/-- What is normalized, at an index: the stacked token plus the scratch. -/
theorem summed_apply (T : Fin 8 → BitVec 32) (x1 : Vec Ideal S252x8x1024 .f32) (x2 x3 : Vec Ideal S8x1024 .f32) (x5 : Vec Ideal S1x1024 .f32)
    (s : Vec Ideal S256x8x1024 .f32) (p : Fin 256) (r : Fin 8) (k : Fin 1024) :
    summed T x1 x2 x3 x5 s (ix3 p r k)
      = stack p.val (fun h => x1 (ix3 ⟨p.val, h⟩ r k)) (x2 (ix2 r k)) (kernelTimeEntry (T r) k) (x3 (ix2 r k)) (x5 (ix2 0 k))
        + s (ix3 p r k) := by
  unfold stack
  pointwise [summed, k0_pay10, k0_pay3, k0_pay8, k0_pay6, k0_pay7, k0_pay9, freq, phase, rows]
  have eT : (Scalar.select (IntOp.cmpi CmpIPredicate.eq (BitVec.ofNat 32 r.val) 7#32) (step (T 7))
      (Scalar.select (IntOp.cmpi CmpIPredicate.eq (BitVec.ofNat 32 r.val) 6#32) (step (T 6))
      (Scalar.select (IntOp.cmpi CmpIPredicate.eq (BitVec.ofNat 32 r.val) 5#32) (step (T 5))
      (Scalar.select (IntOp.cmpi CmpIPredicate.eq (BitVec.ofNat 32 r.val) 4#32) (step (T 4))
      (Scalar.select (IntOp.cmpi CmpIPredicate.eq (BitVec.ofNat 32 r.val) 3#32) (step (T 3))
      (Scalar.select (IntOp.cmpi CmpIPredicate.eq (BitVec.ofNat 32 r.val) 2#32) (step (T 2))
      (Scalar.select (IntOp.cmpi CmpIPredicate.eq (BitVec.ofNat 32 r.val) 1#32) (step (T 1))
      (Scalar.select (IntOp.cmpi CmpIPredicate.eq (BitVec.ofNat 32 r.val) 0#32) (step (T 0)) (0 : EReal)))))))))
      = step (T r) := by
    fin_cases r <;> rfl
  unfold step at eT
  rw [eT]
  by_cases h : p.val < 252
  · rw [dif_pos h, dif_pos h]
  rw [dif_neg h, dif_neg h]
  congr 1
  by_cases h1 : p.val < 253
  · rw [dif_pos (by omega), if_pos h1]
  rw [dif_neg (by omega), if_neg h1]
  by_cases h2 : p.val < 254
  · rw [dif_pos (by omega), if_pos h2]
    unfold kernelTimeEntry step
    by_cases hk : k.val < 512
    · simp only [if_pos hk]
    · simp only [if_neg hk]
  rw [dif_neg (by omega), if_neg h2]
  by_cases h3 : p.val < 255
  · rw [dif_pos (by omega), if_pos h3]
  · rw [dif_neg (by omega), if_neg h3]

/-- What is written, at an index: the kernel's normalization of one row. -/
theorem block_apply (T : Fin 8 → BitVec 32) (x1 : Vec Ideal S252x8x1024 .f32) (x2 x3 : Vec Ideal S8x1024 .f32) (x5 x6 x7 : Vec Ideal S1x1024 .f32)
    (s : Vec Ideal S256x8x1024 .f32) (r : Fin 8) (p : Fin 256) (l : Fin 1024) :
    block T x1 x2 x3 x5 x6 x7 s (ix3 r p l)
      = Row.kernelRow (fun k => summed T x1 x2 x3 x5 s (ix3 p r k)) (x6 (ix2 0 l)) (x7 (ix2 0 l)) l := by
  unfold Row.kernelRow Row.kernelVar Row.kernelMean
  have hX : k0_pay10 (k0_pay3 x1) k0_pay4 k0_pay5 rows (k0_pay8 rows (k0_pay6 (F := Ideal) (T 0)) k0_pay7 (T 1) (T 2) (T 3) (T 4) (T 5))
    (k0_pay9 rows) (T 6) (T 7) x2 x3 x5 s = summed T x1 x2 x3 x5 s := rfl
  unfold block means variances k0_pay12 k0_pay11
  rw [hX]
  generalize summed T x1 x2 x3 x5 s = X
  pointwise [k0_pay1]
-- ==== Proof.Arrays.lean ====
/- The result array after the run: every row of it, the kernel's normalization of one token. -/
module

public import proofs.«01_k».proof.Proof.Block
public import Idealize.ShloMosaic.Lib.Claim

@[expose] public section

set_option maxRecDepth 16384

noncomputable section

namespace Cert.KernelIdeal.Arrays

open Cert.KernelIdeal Cert.KernelIdeal.Gen Cert.KernelIdeal.Pieces Cert.Tokens
open Idealize.ShloMosaic Idealize.ShloMosaic.TcCoe Idealize.SL.Sem
open Idealize.ShloMosaic.Pipeline (Dat)

variable (m : (ℓ : Loc nD τ sig) → Buf (Elt Ideal) ℓ)

/-- Where each window's block sits, at every point. -/
theorem idx : ∀ t : Fin cfg0.N, win0_0.index t = ![0] ∧ win0_1.index t = ![0, t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0, 0] :=
  (by decide +kernel : ∀ t : Fin grid0.N, _)

/-- Where row `i` of point `t` reads its step number. -/
theorem off : ∀ (t : Fin cfg0.N) (i : Fin 8), k0_off1 (grid0.coords t) (BitVec.ofNat 32 i.val) = ![8 * t.val + i.val] :=
  (by decide +kernel : ∀ (t : Fin grid0.N) (i : Fin 8), _)

/-- Row `i` of point `t`, as a row of the batch. -/
def row (t : Fin cfg0.N) (i : Fin 8) : Fin 64 := ⟨8 * t.val + i.val, by have := lt_of_lt_of_eq t.isLt N_0; omega⟩

/-- The step number of a row of the block is the batch row's. -/
theorem words_eq (c : Dev nD) (t : Fin cfg0.N) (i : Fin 8) :
    words (iblk m c 0 t) t i = m ((c : Thread nD τ).loc main_arg1) (ix1 (row t i)) := by
  unfold words
  have e : (Rect.unit (s := S64) (k0_off1 (grid0.coords t) (BitVec.ofNat 32 i.val)) ![1] (k0_off1_inb (grid0.coords t) i)).idx
      (Shape.Idx.first (show 0 < S1.numel by decide)) = ix1 (row t i) := by
    funext a
    refine Fin.ext ?_
    fin_cases a
    have h := congrFun (off t i) 0
    show k0_off1 (grid0.coords t) (BitVec.ofNat 32 i.val) 0 + 1 * 0 = 8 * t.val + i.val
    exact h
  rw [e]
  unfold row
  blk_point [iblk, V, idx t]

/-- The host has transposed the text tokens, position before batch. -/
theorem entry_txt (c : Dev nD) : V m c main_call0_v0
    = transpose S252x64x1024 [1, 0, 2] (m ((c : Thread nD τ).loc main_arg2)) transposes_S64x252x1024_S252x64x1024_1_0_2 := by
  entry_read
  rfl

/-- The host has laid out the padding token as one row. -/
theorem entry_fin (c : Dev nD) : V m c main_call0_v1
    = broadcastInDim S1x1024 ![1] bcast_S1024_S1x1024_1 (m ((c : Thread nD τ).loc main_arg5)) := by
  entry_read
  rfl

/-- The host has laid out the gain as one row. -/
theorem entry_gain (c : Dev nD) : V m c main_call0_v2
    = broadcastInDim S1x1024 ![1] bcast_S1024_S1x1024_1 (m ((c : Thread nD τ).loc main_arg6)) := by
  entry_read
  rfl

/-- The host has laid out the shift as one row. -/
theorem entry_shift (c : Dev nD) : V m c main_call0_v3
    = broadcastInDim S1x1024 ![1] bcast_S1024_S1x1024_1 (m ((c : Thread nD τ).loc main_arg7)) := by
  entry_read
  rfl

/-- A text token of the block. -/
theorem txt_eq (c : Dev nD) (t : Fin cfg0.N) (p : Fin 252) (r : Fin 8) (k : Fin 1024) :
    iblk m c 1 t (ix3 p r k) = m ((c : Thread nD τ).loc main_arg2) (ix3 (row t r) p k) := by
  have h : iblk m c 1 t (ix3 p r k) = V m c main_call0_v0 (ix3 p (row t r) k) := by
    unfold row
    blk_point [iblk, idx t]
  rw [h, entry_txt]
  pointwise

/-- The text summary token of the block. -/
theorem ctxt_eq (c : Dev nD) (t : Fin cfg0.N) (r : Fin 8) (k : Fin 1024) :
    iblk m c 2 t (ix2 r k) = m ((c : Thread nD τ).loc main_arg3) (ix2 (row t r) k) := by
  unfold row
  blk_point [iblk, V, idx t]

/-- The image token of the block. -/
theorem img_eq (c : Dev nD) (t : Fin cfg0.N) (r : Fin 8) (k : Fin 1024) :
    iblk m c 3 t (ix2 r k) = m ((c : Thread nD τ).loc main_arg0) (ix2 (row t r) k) := by
  unfold row
  blk_point [iblk, V, idx t]

/-- The scratch holds the position embedding, the same for every row of the block. -/
theorem scratch_eq (c : Dev nD) (t : Fin cfg0.N) (p : Fin 256) (r : Fin 8) (k : Fin 1024) :
    k0_pay2 (F := Ideal) (iblk m c 4 t) (ix3 p r k) = m ((c : Thread nD τ).loc main_arg4) (ix2 p k) := by
  pointwise [k0_pay2]
  blk_point [iblk, V, idx t]

/-- The padding token of the block. -/
theorem fin_eq (c : Dev nD) (t : Fin cfg0.N) (k : Fin 1024) :
    iblk m c 5 t (ix2 0 k) = m ((c : Thread nD τ).loc main_arg5) (ix1 k) := by
  have h : iblk m c 5 t (ix2 0 k) = V m c main_call0_v1 (ix2 0 k) := by
    blk_point [iblk, idx t]
  rw [h, entry_fin]
  pointwise

/-- The gain of the block. -/
theorem gain_eq (c : Dev nD) (t : Fin cfg0.N) (k : Fin 1024) :
    iblk m c 6 t (ix2 0 k) = m ((c : Thread nD τ).loc main_arg6) (ix1 k) := by
  have h : iblk m c 6 t (ix2 0 k) = V m c main_call0_v2 (ix2 0 k) := by
    blk_point [iblk, idx t]
  rw [h, entry_gain]
  pointwise

/-- The shift of the block. -/
theorem shift_eq (c : Dev nD) (t : Fin cfg0.N) (k : Fin 1024) :
    iblk m c 7 t (ix2 0 k) = m ((c : Thread nD τ).loc main_arg7) (ix1 k) := by
  have h : iblk m c 7 t (ix2 0 k) = V m c main_call0_v3 (ix2 0 k) := by
    blk_point [iblk, idx t]
  rw [h, entry_shift]
  pointwise

/-- The token a row of the result normalizes, of the launched arrays. -/
abbrev tok (c : Dev nD) (b : Fin 64) (s : Fin 256) (l : Fin 1024) : EReal :=
  token (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) b s l

/-- The result array: every row the kernel's normalization of its token. -/
def result (c : Dev nD) : Buf (Elt Ideal) ((c : Thread nD τ).loc main_v0) := fun i =>
  Row.kernelRow (tok m c (i 0) (i 1)) (m ((c : Thread nD τ).loc main_arg6) (ix1 (i 2))) (m ((c : Thread nD τ).loc main_arg7) (ix1 (i 2))) (i 2)

/-- What point `t` writes, at a block index. -/
theorem point (c : Dev nD) (t : Fin cfg0.N) (r : Fin 8) (p : Fin 256) (l : Fin 1024) :
    (outsAt0 m c t.val t.isLt).1 (ix3 r p l)
      = Row.kernelRow (tok m c (row t r) p) (m ((c : Thread nD τ).loc main_arg6) (ix1 l)) (m ((c : Thread nD τ).loc main_arg7) (ix1 l)) l := by
  rw [Pieces.out, Block.block_apply, gain_eq, shift_eq]
  have h : (fun k => summed (words (iblk m c 0 t) t) (iblk m c 1 t) (iblk m c 2 t) (iblk m c 3 t) (iblk m c 5 t)
      (k0_pay2 (F := Ideal) (iblk m c 4 ⟨0, lt_of_lt_of_eq (by decide : 0 < 8) N_0.symm⟩)) (ix3 p r k)) = tok m c (row t r) p := by
    funext k
    rw [Block.summed_apply, scratch_eq, words_eq, ctxt_eq, img_eq, fin_eq, kernelTimeEntry_eq]
    have ht : (fun h : p.val < 252 => iblk m c 1 t (ix3 ⟨p.val, h⟩ r k))
        = fun h : p.val < 252 => m ((c : Thread nD τ).loc main_arg2) (ix3 (row t r) ⟨p.val, h⟩ k) :=
      funext fun h => txt_eq m c t ⟨p.val, h⟩ r k
    rw [ht]
    rfl
  rw [h]

/-- The result array after the run. -/
theorem final (c : Dev nD) : (dats m 0 c).arrAt 8 cfg0.N = result m c := by
  refine (dats m 0 c).arrAt_eq_of_covers 8 _ (by decide +kernel) fun t hf y => ?_
  blk_simp
  rw [after0_8]
  have he : ∀ (r : Fin 8) (p : Fin 256) (l : Fin 1024), (win0_8.blk t).view.emb (ix3 r p l) = ix3 (row t r) p l := by
    intro r p l
    unfold row
    blk_ext [idx t]
  have hw : ∀ z : S8x256x1024.Idx, (outsAt0 m c t.val t.isLt).1 z = result m c ((win0_8.blk t).view.emb z) := by
    intro z
    obtain ⟨r, p, l, rfl⟩ : ∃ (r : Fin 8) (p : Fin 256) (l : Fin 1024), z = ix3 r p l := ⟨z 0, z 1, z 2, by blk_ext⟩
    rw [he, point]
    rfl
  exact hw y

end Cert.KernelIdeal.Arrays

end
-- ==== Proof.Reference.lean ====
/- The reference's result at an index: row `(b, s)` of the tokens, normalized the reference's way. -/
module

public import proofs.«01_k».proof.Proof.Tokens
public import proofs.«01_k».proof.Proof.Gen.ReferenceIdeal.Read

@[expose] public section

set_option maxRecDepth 16384

noncomputable section

namespace Cert.ReferenceIdeal.Entry

open Cert.ReferenceIdeal Cert.ReferenceIdeal.Gen Cert.ReferenceIdeal.Read Cert.Tokens
open Idealize.ShloMosaic Idealize.ShloMosaic.TcCoe Idealize.SL.Sem

/-! ## The position embedding, taken at the positions 0 … 255 -/

/-- A position is not negative, so no wrapping is applied to it. -/
theorem position_word : ∀ s : Fin 256,
    Scalar.select (Scalar.cmpi .slt (BitVec.ofNat 32 s.val) 0#32) (Scalar.addi (BitVec.ofNat 32 s.val) 256#32) (BitVec.ofNat 32 s.val)
      = BitVec.ofNat 32 s.val := by decide +kernel

/-- The position at which row `s` is taken is `s`. -/
theorem position (b : Fin 64) (s : Fin 256) (o : Fin 1) :
    val_main_call0_v5 (F := Ideal) (ix3 b s o) = BitVec.ofNat 32 s.val := by
  rw [val_main_call0_v5_apply, val_main_call0_v4_apply]
  pointwise [val_main_call0_v1, val_main_call0_v3, val_main_v25, val_main_v24, val_main_v23, val_main_call0_v0, val_main_call0_v2, val_main_call0_c, val_main_call0_c_0]
  exact position_word s

/-- A position lies in the table. -/
theorem inside_word : ∀ s : Fin 256,
    Scalar.andi (Scalar.cmpi .sge (BitVec.ofNat 32 s.val) 0#32) (Scalar.cmpi .sle (BitVec.ofNat 32 s.val) 255#32) = 1#1 := by
  decide +kernel

theorem inside (b : Fin 64) (s : Fin 256) (o : Fin 1) : val_main_call0_v11 (F := Ideal) (ix3 b s o) = 1#1 := by
  pointwise [val_main_call0_v11, val_main_call0_v7, val_main_call0_v10, position, val_main_call0_v6, val_main_call0_c_2, val_main_call0_v9, val_main_call0_v8, val_main_call0_c_1]
  exact inside_word s

theorem all_inside (b : Fin 64) (s : Fin 256) : val_main_call0_v12 (F := Ideal) (ix2 b s) = 1#1 := by
  unfold val_main_call0_v12
  pointwise [inside, val_main_call0_c_3]
  exact Finset.fold_singleton

/-- A position read as a row number of the table. -/
theorem row_word : ∀ s : Fin 256, min (BitVec.ofNat 32 s.val).toInt.toNat (256 - 1) + 0 + 0 = s.val := by decide +kernel

/-- Every position lies in the table, so every row is kept as it is taken. -/
theorem gathered (x4 : (⟨S256x1024, .f32⟩ : BufTy).Contents (Elt Ideal)) (b : Fin 64) (s : Fin 256) (l : Fin 1024) :
    val_main_call0_v13 (F := Ideal) x4 (ix3 b s l) = x4 (ix2 s l) := by
  unfold val_main_call0_v13 Host.gather
  congr 1
  funext a
  refine Fin.ext ?_
  show gather_S256x1024_S64x256x1_S64x256x1024_2_0_n_n_0_2_11024.start (ix3 b s l) (val_main_call0_v5 (F := Ideal)) a
    + gather_S256x1024_S64x256x1_S64x256x1024_2_0_n_n_0_2_11024.batchCoord (ix3 b s l) a
    + gather_S256x1024_S64x256x1_S64x256x1024_2_0_n_n_0_2_11024.offCoord (ix3 b s l) a = _
  have hb : gather_S256x1024_S64x256x1_S64x256x1024_2_0_n_n_0_2_11024.batchCoord (ix3 b s l) a = 0 :=
    GatherDims.batchCoord_eq_zero _ _ _ (List.not_mem_nil)
  rw [hb]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S256x1024_S64x256x1_S64x256x1024_2_0_n_n_0_2_11024.startIndexMap from List.mem_singleton.mpr rfl)]
    have hsi : gather_S256x1024_S64x256x1_S64x256x1024_2_0_n_n_0_2_11024.siIdx (ix3 b s l)
        ⟨List.idxOf (0 : Fin 2) gather_S256x1024_S64x256x1_S64x256x1024_2_0_n_n_0_2_11024.startIndexMap,
        List.idxOf_lt_length_iff.2 (List.mem_singleton.mpr rfl)⟩ = ix3 b s 0 := by
      funext b; refine Fin.ext ?_
      match b with
      | ⟨0, _⟩ => rfl
      | ⟨1, _⟩ => rfl
      | ⟨2, _⟩ => rfl
    rw [hsi, position]
    exact row_word s
  · unfold GatherDims.start
    rw [dif_neg (show ¬(1 : Fin 2) ∈ gather_S256x1024_S64x256x1_S64x256x1024_2_0_n_n_0_2_11024.startIndexMap from by decide)]
    rw [Nat.zero_add]
    rfl

/-- The position embedding as taken is the position embedding, row by row. -/
theorem taken (x4 : (⟨S256x1024, .f32⟩ : BufTy).Contents (Elt Ideal)) (b : Fin 64) (s : Fin 256) (l : Fin 1024) :
    val_main_v26 (F := Ideal) x4 (ix3 b s l) = x4 (ix2 s l) := by
  rw [val_main_v26_apply, val_main_call0_v14_apply, gathered]
  have h : idx_main_call0_v14 (ix3 b s l) = ix2 b s := by
    funext a
    match a with
    | ⟨0, _⟩ => rfl
    | ⟨1, _⟩ => rfl
  rw [h, all_inside]
  rfl

/-! ## The time embedding and the stack -/

/-- Frequency number `k` of the 512. -/
theorem frequency_number (k : Fin 512) : val_main_v2 (F := Ideal) (ix1 k) = ((k.val : ℝ) : EReal) := by
  pointwise [val_main_v2]
  exact step_ofNat k.val (by omega)

/-- The angle of step `x1 b` at frequency number `k`. -/
theorem angle (x1 : (⟨S64, .i32⟩ : BufTy).Contents (Elt Ideal)) (b : Fin 64) (k : Fin 512) :
    val_main_v17 (F := Ideal) x1 (ix2 b k) = step (x1 (ix1 b)) * Row.referenceFreq ((k.val : ℝ) : EReal) := by
  rw [val_main_v17_apply, val_main_v14_apply, val_main_v13_apply, val_main_v1_apply, val_main_v0_apply,
    val_main_v16_apply, val_main_v15_apply, val_main_v12_apply, val_main_v11_apply, val_main_v10_apply, val_main_v9_apply, val_main_v8_apply, val_main_v7_apply, val_main_v6_apply, val_main_v5_apply, val_main_v4_apply, val_main_v3_apply]
  have e2 : val_main_v2 (F := Ideal) (idx_main_v15 (idx_main_v16 (ix2 b k))) = ((k.val : ℝ) : EReal) := frequency_number k
  have ei : idx_main_v0 (idx_main_v13 (idx_main_v14 (ix2 b k))) = ix1 b := by
    funext a
    match a with
    | ⟨0, _⟩ =>
      refine Fin.ext ?_
      show (b.val * 512 + k.val) / 512 = b.val
      have := k.isLt
      omega
  rw [e2, ei]
  unfold Row.referenceFreq
  pointwise [val_main_cst, val_main_cst_0, val_main_cst_1, val_main_cst_2, val_main_cst_3]
  rfl

/-- The reference's time embedding. -/
theorem time (x1 : (⟨S64, .i32⟩ : BufTy).Contents (Elt Ideal)) (b : Fin 64) (l : Fin 1024) :
    val_main_v20 (F := Ideal) x1 (ix2 b l) = timeEntry (x1 (ix1 b)) l := by
  unfold timeEntry
  pointwise [val_main_v20, val_main_v18, val_main_v19, angle]
  rfl

/-- What the reference normalizes is the array of the tokens. -/
theorem stacked (x0 : (⟨S64x1024, .f32⟩ : BufTy).Contents (Elt Ideal)) (x1 : (⟨S64, .i32⟩ : BufTy).Contents (Elt Ideal)) (x2 : (⟨S64x252x1024, .f32⟩ : BufTy).Contents (Elt Ideal)) (x3 : (⟨S64x1024, .f32⟩ : BufTy).Contents (Elt Ideal)) (x4 : (⟨S256x1024, .f32⟩ : BufTy).Contents (Elt Ideal)) (x5 : (⟨S1024, .f32⟩ : BufTy).Contents (Elt Ideal))
    (b : Fin 64) (s : Fin 256) (l : Fin 1024) :
    val_main_v32 (F := Ideal) x0 x1 x2 x3 x4 x5 (ix3 b s l) = token x0 x1 x2 x3 x4 x5 b s l := by
  rw [val_main_v32_apply, taken]
  unfold token stack
  pointwise [val_main_v31, val_main_v27, val_main_v28, val_main_v29, val_main_v30, val_main_v22, val_main_v21, time]
  by_cases h0 : s.val < 252
  · simp only [dif_pos h0]
  · have h1 : (s.val - 252 < 1) ↔ s.val < 253 := by omega
    have h2 : (s.val - 252 - 1 < 1) ↔ s.val < 254 := by omega
    have h3 : (s.val - 252 - 1 - 1 < 1) ↔ s.val < 255 := by omega
    simp only [dif_neg h0, h1, h2, h3, dite_eq_ite]

/-! ## The normalized row -/
/-- THE REFERENCE'S RESULT AT AN INDEX. -/
theorem result (x0 : (⟨S64x1024, .f32⟩ : BufTy).Contents (Elt Ideal)) (x1 : (⟨S64, .i32⟩ : BufTy).Contents (Elt Ideal)) (x2 : (⟨S64x252x1024, .f32⟩ : BufTy).Contents (Elt Ideal)) (x3 : (⟨S64x1024, .f32⟩ : BufTy).Contents (Elt Ideal)) (x4 : (⟨S256x1024, .f32⟩ : BufTy).Contents (Elt Ideal)) (x5 x6 x7 : (⟨S1024, .f32⟩ : BufTy).Contents (Elt Ideal))
    (b : Fin 64) (s : Fin 256) (l : Fin 1024) :
    val_main_v50 (F := Ideal) x0 x1 x2 x3 x4 x5 x6 x7 (ix3 b s l)
      = Row.referenceRow (token x0 x1 x2 x3 x4 x5 b s) (x6 (ix1 l)) (x7 (ix1 l)) l := by
  unfold Row.referenceRow Row.referenceVar Row.referenceMean
  pointwise [val_main_v50, val_main_v49, val_main_v48, val_main_v47, val_main_v46, val_main_v45, val_main_v44, val_main_v43, val_main_v42, val_main_v41, val_main_v40, val_main_cst_6, val_main_v39, val_main_v38, val_main_v37, val_main_v36, val_main_v35, val_main_v34, val_main_v33, val_main_cst_4, val_main_cst_5, val_main_c,
    val_main_call1_v13, val_main_call1_v12, val_main_call1_v11, val_main_call1_v10, val_main_call1_v9, val_main_call1_v8, val_main_call1_v7, val_main_call1_v6, val_main_call1_v5, val_main_call1_v4, val_main_call1_v3, val_main_call1_v2, val_main_call1_v1, val_main_call1_v0, val_main_call1_cst, val_main_call1_cst_0, val_main_call1_cst_1, val_main_call1_cst_2, val_main_call1_cst_3, stacked]
  have hz : FloatOps.sitofp (F := Ideal) .f32 0#32 = (0 : EReal) := by
    show (((0#32 : BitVec 32).toInt : ℝ) : EReal) = 0
    simp
  have hp : (0 : EReal) < Ideal.ofBits .f32 0x44800000#32 := by
    rw [Row.word_length]
    exact_mod_cast (by norm_num : (0 : ℝ) < 1024)
  rw [hz]
  simp only [sub_zero, if_pos hp]

end Cert.ReferenceIdeal.Entry

end
-- ==== Proof.Finite.lean ====
/- The precondition read: every entry of the five embedding arrays is a real number. -/
module

public import proofs.«01_k».proof.Defs
public import proofs.«01_k».proof.Proof.Row
public import Idealize.ShloMosaic.Lib.Pointwise

@[expose] public section

noncomputable section

namespace Cert.Finite

open Idealize.ShloMosaic Idealize.SL.Sem

/-- The shape relations the precondition's operations take. -/
theorem facts : Cert.Pre_embeddings_finite.Facts where
  bcast_S_S64x1024 := by decide
  bcast_S_S64x252x1024 := by decide
  bcast_S_S256x1024 := by decide
  bcast_S_S1024 := by decide

/-- A value whose magnitude compares below the top is a real number. -/
theorem real_of_below (a : EReal) (h : FloatOps.cmpf (F := Ideal) (φ := .f32) .olt (max a (-a)) (Ideal.ofBits .f32 0x7F800000#32) = 1#1) :
    ∃ r : ℝ, a = (r : EReal) := by
  rw [Row.word_top] at h
  induction a with
  | bot => exact absurd h (by simp [FloatOps.cmpf, Ideal.cmp])
  | coe r => exact ⟨r, rfl⟩
  | top => exact absurd h (by simp [FloatOps.cmpf, Ideal.cmp])

/-- The same, of a whole array. -/
theorem reals {s : Shape} (hb : Cert.Pre_embeddings_finite.S_.BroadcastsInDim s (![] : Fin 0 → Fin s.rank)) (x : FVec Ideal s .f32)
    (h : cmpf .olt (Host.absf x) (broadcastInDim s ![] hb (constant Cert.Pre_embeddings_finite.S_ .f32 0x7F800000#32)) = fun _ => 1#1) (i : s.Idx) :
    ∃ r : ℝ, x i = (r : EReal) :=
  real_of_below (x i) (congrFun h i)

end Cert.Finite

end
-- ==== Proof.Agree.lean ====
/- The two results are one array, where the embeddings are finite. -/
module

public import proofs.«01_k».proof.Proof.Arrays
public import proofs.«01_k».proof.Proof.Reference
public import proofs.«01_k».proof.Proof.Finite
public import proofs.«01_k».proof.Proof.Gen.ReferenceIdeal.Run

@[expose] public section

set_option maxRecDepth 16384

noncomputable section

namespace Cert.Agree

open Idealize.ShloMosaic Idealize.ShloMosaic.TcCoe Idealize.SL.Sem

/-- The reference's term of the kernel's arguments is the kernel's result. -/
theorem term (hPre : Cert.Pre_embeddings_finite.Facts)
    (m : (ℓ : Loc Cert.KernelIdeal.nD Cert.KernelIdeal.τ Cert.KernelIdeal.sig) → Buf (Elt Ideal) ℓ)
    (h : Pre_KernelIdeal_embeddings_finite (hPre_embeddings_finite := hPre) m) (c : Dev Cert.KernelIdeal.nD) :
    Cert.ReferenceIdeal.Read.val_main_v50 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      = Cert.KernelIdeal.Arrays.result m c := by
  obtain ⟨h0, h2, h3, h4, h5⟩ := h c
  funext i
  obtain ⟨b, s, l, rfl⟩ : ∃ (b : Fin 64) (s : Fin 256) (l : Fin 1024), i = ix3 b s l := ⟨i 0, i 1, i 2, by blk_ext⟩
  refine (Cert.ReferenceIdeal.Entry.result _ _ _ _ _ _ _ _ b s l).trans (Row.row_eq _ (fun k => ?_) _ _ l).symm
  exact Tokens.token_real (Finite.reals hPre.bcast_S_S64x1024 _ h0) (Finite.reals hPre.bcast_S_S64x252x1024 _ h2)
    (Finite.reals hPre.bcast_S_S64x1024 _ h3) (Finite.reals hPre.bcast_S_S256x1024 _ h4) (Finite.reals hPre.bcast_S_S1024 _ h5) b s k

end Cert.Agree

end
-- ==== Proof.lean ====
/- The claim: the kernel and the reference run cleanly, the idealization is the sanctioned one, and the two idealized
   results are equal wherever the embeddings are finite. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Agree
public import Idealize.ShloMosaic.Lib.Quiescent

@[expose] public section

set_option maxRecDepth 16384

noncomputable section

namespace Cert.Proof

open Idealize.ShloMosaic Idealize.SL.Sem

/-- The reference runs and leaves its arguments as they were; having no semaphore, it leaves every counter at zero. -/
theorem referenceRun : quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- The idealized kernel and the idealized reference end with equal results. -/
theorem algebraic : algebraic_KernelIdeal_ReferenceIdeal_pre_embeddings_finite (hKernelIdeal := Cert.KernelIdeal.Gen.facts)
    (hReferenceIdeal := Cert.ReferenceIdeal.Gen.facts) (hPre_embeddings_finite := Cert.Finite.facts) := by
  intro m g m' g' hm hagree
  refine ⟨fun c => Cert.KernelIdeal.Arrays.result m c, ?_, ?_⟩
  · refine (θ_run _ _ _).mono (fun r h c => ?_) (Cert.KernelIdeal.Value.run_blocks m g)
    exact ⟨(h c).1.trans (Cert.KernelIdeal.Arrays.final m c), (h c).2⟩
  · refine (θ_run _ _ _).mono (fun r h c => ?_) (Cert.ReferenceIdeal.Value.run m' g')
    refine ⟨(h c).1.trans ((Cert.ReferenceIdeal.Read.val_main_v50_eq m' c).trans ?_), (h c).2⟩
    obtain ⟨e0, e1, e2, e3, e4, e5, e6, e7⟩ := hagree c
    rw [e0, e1, e2, e3, e4, e5, e6, e7]
    exact Cert.Agree.term Cert.Finite.facts m hm c

/-- Everything claimed. -/
theorem claim : Cert.Claim :=
  ⟨Cert.Kernel.Gen.facts, Cert.KernelIdeal.Gen.facts, Cert.ReferenceIdeal.Gen.facts, Cert.Finite.facts,
    fun m g _ => Cert.Kernel.Gen.frame m g,
    fun m g _ => Cert.KernelIdeal.Gen.frame m g,
    fun m g _ => Cert.KernelIdeal.Gen.frame m g,
    fun m g _ => referenceRun m g trivial,
    fun m g _ => referenceRun m g trivial,
    IdealRules.named_const.statement Cert.KernelIdeal.κ "half_pi" .f32 0x3FC90FDB#32 _ rfl,
    algebraic⟩

end Cert.Proof

end
